-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x64x64 : Shape := ⟨4, ![64, 512, 64, 64]⟩
abbrev S64x512 : Shape := ⟨2, ![64, 512]⟩
abbrev S64 : Shape := ⟨1, ![64]⟩
abbrev S2097152x64 : Shape := ⟨2, ![2097152, 64]⟩
abbrev S64x1 : Shape := ⟨2, ![64, 1]⟩
abbrev S64x64x512 : Shape := ⟨3, ![64, 64, 512]⟩
abbrev S8192x64 : Shape := ⟨2, ![8192, 64]⟩
abbrev S1x64x512 : Shape := ⟨3, ![1, 64, 512]⟩
abbrev S4096x512 : Shape := ⟨2, ![4096, 512]⟩
abbrev S64x4096 : Shape := ⟨2, ![64, 4096]⟩
abbrev S8x512 : Shape := ⟨2, ![8, 512]⟩
abbrev S128x4096 : Shape := ⟨2, ![128, 4096]⟩
abbrev S128x64x64 : Shape := ⟨3, ![128, 64, 64]⟩
abbrev S128x8x512 : Shape := ⟨3, ![128, 8, 512]⟩
abbrev S64x128 : Shape := ⟨2, ![64, 128]⟩
abbrev S1024x512 : Shape := ⟨2, ![1024, 512]⟩
abbrev S1x512 : Shape := ⟨2, ![1, 512]⟩
abbrev S1x4096 : Shape := ⟨2, ![1, 4096]⟩
abbrev S4096 : Shape := ⟨1, ![4096]⟩
abbrev S512x8x512 : Shape := ⟨3, ![512, 8, 512]⟩
abbrev S1x8x512 : Shape := ⟨3, ![1, 8, 512]⟩
abbrev S1 : Shape := ⟨1, ![1]⟩
abbrev S1x1x1 : Shape := ⟨3, ![1, 1, 1]⟩
abbrev S64x32768 : Shape := ⟨2, ![64, 32768]⟩

abbrev nBuf : Space → Nat
  | .hbm => 8
  | .vmem => 11
  | .smem => 0
  | _ => 0

abbrev bufTy : (tb : Table) → Fin (tcTables nBuf tb) → BufTy
  | .hbm, ⟨0, _⟩ => ⟨S64x512x64x64, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S2097152x64, .f32⟩
  | .hbm, ⟨5, _⟩ => ⟨S64x1, .f32⟩
  | .hbm, ⟨6, _⟩ => ⟨S64x64x512, .f32⟩
  | .hbm, ⟨7, _⟩ => ⟨S64x32768, .f32⟩
  | .local _ .vmem, ⟨0, _⟩ => ⟨S8192x64, .f32⟩
  | .local _ .vmem, ⟨1, _⟩ => ⟨S8192x64, .f32⟩
  | .local _ .vmem, ⟨2, _⟩ => ⟨S64x512, .f32⟩
  | .local _ .vmem, ⟨3, _⟩ => ⟨S64x1, .f32⟩
  | .local _ .vmem, ⟨4, _⟩ => ⟨S64x512, .f32⟩
  | .local _ .vmem, ⟨5, _⟩ => ⟨S1x64x512, .f32⟩
  | .local _ .vmem, ⟨6, _⟩ => ⟨S1x64x512, .f32⟩
  | .local _ .vmem, ⟨7, _⟩ => ⟨S4096x512, .bf16⟩
  | .local _ .vmem, ⟨8, _⟩ => ⟨S64x4096, .f32⟩
  | .local _ .vmem, ⟨9, _⟩ => ⟨S8x512, .f32⟩
  | .local _ .vmem, ⟨10, _⟩ => ⟨S128x4096, .bf16⟩
  | _, _ => ⟨S64x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![64, 4], ![false, false]⟩

def k0_off1 (i : grid0.Coords) : Fin 2 → Nat :=
  let c0_12 : Index := 0#32
  let arg1 : BitVec 32 := BitVec.ofNat 32 (i 1).val
  let c128_i32 : BitVec 32 := 128#32
  let v22 : BitVec 32 := Scalar.muli arg1 c128_i32
  let v23 : Index := Scalar.indexCast v22
  ![0, v23.toNat]
def k0_off2 (i : grid0.Coords) : Fin 2 → Nat :=
  let arg1 : BitVec 32 := BitVec.ofNat 32 (i 1).val
  let c1024_i32 : BitVec 32 := 1024#32
  let v33 : BitVec 32 := Scalar.muli arg1 c1024_i32
  let v34 : Index := Scalar.indexCast v33
  let c0_16 : Index := 0#32
  ![v34.toNat, 0]
def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S64x512x64x64 : Shape := ⟨4, ![64, 512, 64, 64]⟩
abbrev S64x512 : Shape := ⟨2, ![64, 512]⟩
abbrev S64 : Shape := ⟨1, ![64]⟩
abbrev S_ : Shape := ⟨0, ![]⟩
abbrev S64x64x64 : Shape := ⟨3, ![64, 64, 64]⟩
abbrev S64x1x64x64 : Shape := ⟨4, ![64, 1, 64, 64]⟩
abbrev S64x64x64x64 : Shape := ⟨4, ![64, 64, 64, 64]⟩
abbrev S1x64x1x1 : Shape := ⟨4, ![1, 64, 1, 1]⟩
abbrev S64x64x4096 : Shape := ⟨3, ![64, 64, 4096]⟩
abbrev S64x4096 : Shape := ⟨2, ![64, 4096]⟩
abbrev S64x1x4096 : Shape := ⟨3, ![64, 1, 4096]⟩
abbrev S64x4096x512 : Shape := ⟨3, ![64, 4096, 512]⟩
abbrev S64x64x512 : Shape := ⟨3, ![64, 64, 512]⟩
abbrev S64x64 : Shape := ⟨2, ![64, 64]⟩
abbrev S64x64x1 : Shape := ⟨3, ![64, 64, 1]⟩
abbrev S1x64x512 : Shape := ⟨3, ![1, 64, 512]⟩
abbrev S64x32768 : Shape := ⟨2, ![64, 32768]⟩
abbrev S64x1 : Shape := ⟨2, ![64, 1]⟩

abbrev nBuf : Space → Nat
  | .hbm => 65
  | .vmem => 0
  | .smem => 0
  | _ => 0

abbrev bufTy : (tb : Table) → Fin (tcTables nBuf tb) → BufTy
  | .hbm, ⟨0, _⟩ => ⟨S64x512x64x64, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S64x512x64x64, .f32⟩
  | .hbm, ⟨5, _⟩ => ⟨S_, .f32⟩
  | .hbm, ⟨6, _⟩ => ⟨S64x64x64, .f32⟩
  | .hbm, ⟨7, _⟩ => ⟨S64x1x64x64, .f32⟩
  | .hbm, ⟨8, _⟩ => ⟨S64x1x64x64, .f32⟩
  | .hbm, ⟨9, _⟩ => ⟨S_, .f32⟩
  | .hbm, ⟨10, _⟩ => ⟨S64x1x64x64, .f32⟩
  | .hbm, ⟨11, _⟩ => ⟨S64x1x64x64, .f32⟩
  | .hbm, ⟨12, _⟩ => ⟨S64x512x64x64, .f32⟩
  | .hbm, ⟨13, _⟩ => ⟨S64x512x64x64, .f32⟩
  | .hbm, ⟨14, _⟩ => ⟨S64x64x64x64, .f32⟩
  | .hbm, ⟨15, _⟩ => ⟨S64x64x64x64, .f32⟩
  | .hbm, ⟨16, _⟩ => ⟨S1x64x1x1, .f32⟩
  | .hbm, ⟨17, _⟩ => ⟨S64x64x64x64, .f32⟩
  | .hbm, ⟨18, _⟩ => ⟨S64x64x64x64, .f32⟩
  | .hbm, ⟨19, _⟩ => ⟨S64x64x4096, .f32⟩
  | .hbm, ⟨20, _⟩ => ⟨S_, .f32⟩
  | .hbm, ⟨21, _⟩ => ⟨S64x4096, .f32⟩
  | .hbm, ⟨22, _⟩ => ⟨S_, .f32⟩
  | .hbm, ⟨23, _⟩ => ⟨S64x4096, .f32⟩
  | .hbm, ⟨24, _⟩ => ⟨S64x4096, .f32⟩
  | .hbm, ⟨25, _⟩ => ⟨S64x1x4096, .f32⟩
  | .hbm, ⟨26, _⟩ => ⟨S64x64x4096, .f32⟩
  | .hbm, ⟨27, _⟩ => ⟨S64x64x4096, .f32⟩
  | .hbm, ⟨28, _⟩ => ⟨S64x64x4096, .f32⟩
  | .hbm, ⟨29, _⟩ => ⟨S_, .f32⟩
  | .hbm, ⟨30, _⟩ => ⟨S64x4096, .f32⟩
  | .hbm, ⟨31, _⟩ => ⟨S64x1x4096, .f32⟩
  | .hbm, ⟨32, _⟩ => ⟨S64x64x4096, .f32⟩
  | .hbm, ⟨33, _⟩ => ⟨S64x64x4096, .f32⟩
  | .hbm, ⟨34, _⟩ => ⟨S64x4096x512, .f32⟩
  | .hbm, ⟨35, _⟩ => ⟨S64x64x512, .f32⟩
  | .hbm, ⟨36, _⟩ => ⟨S_, .f32⟩
  | .hbm, ⟨37, _⟩ => ⟨S64x64, .f32⟩
  | .hbm, ⟨38, _⟩ => ⟨S64x64x1, .f32⟩
  | .hbm, ⟨39, _⟩ => ⟨S1x64x512, .f32⟩
  | .hbm, ⟨40, _⟩ => ⟨S64x64x512, .f32⟩
  | .hbm, ⟨41, _⟩ => ⟨S64x64x512, .f32⟩
  | .hbm, ⟨42, _⟩ => ⟨S64x64x512, .f32⟩
  | .hbm, ⟨43, _⟩ => ⟨S64x64x512, .f32⟩
  | .hbm, ⟨44, _⟩ => ⟨S64x64x512, .f32⟩
  | .hbm, ⟨45, _⟩ => ⟨S_, .f32⟩
  | .hbm, ⟨46, _⟩ => ⟨S64x64, .f32⟩
  | .hbm, ⟨47, _⟩ => ⟨S64x64x1, .f32⟩
  | .hbm, ⟨48, _⟩ => ⟨S64x64x1, .f32⟩
  | .hbm, ⟨49, _⟩ => ⟨S_, .f32⟩
  | .hbm, ⟨50, _⟩ => ⟨S64x64x1, .f32⟩
  | .hbm, ⟨51, _⟩ => ⟨S64x64x1, .f32⟩
  | .hbm, ⟨52, _⟩ => ⟨S64x64x512, .f32⟩
  | .hbm, ⟨53, _⟩ => ⟨S64x64x512, .f32⟩
  | .hbm, ⟨54, _⟩ => ⟨S64x32768, .f32⟩
  | .hbm, ⟨55, _⟩ => ⟨S64x32768, .f32⟩
  | .hbm, ⟨56, _⟩ => ⟨S_, .f32⟩
  | .hbm, ⟨57, _⟩ => ⟨S64, .f32⟩
  | .hbm, ⟨58, _⟩ => ⟨S64x1, .f32⟩
  | .hbm, ⟨59, _⟩ => ⟨S64x1, .f32⟩
  | .hbm, ⟨60, _⟩ => ⟨S_, .f32⟩
  | .hbm, ⟨61, _⟩ => ⟨S64x1, .f32⟩
  | .hbm, ⟨62, _⟩ => ⟨S64x1, .f32⟩
  | .hbm, ⟨63, _⟩ => ⟨S64x32768, .f32⟩
  | .hbm, ⟨64, _⟩ => ⟨S64x32768, .f32⟩
  | _, _ => ⟨S64x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.Ref.lean ====
/- The reference's run and its result. -/
module

public import proofs.«01_k».proof.Proof.Gen.ReferenceIdeal.Run
public import proofs.«01_k».proof.Proof.Gen.ReferenceIdeal.Read

@[expose] public section
end
-- ==== Proof.Step.lean ====
/- One grid point of the kernel body, stated as a triple with every buffer's contents named: what the first, the
   middle and the last channel chunk of an image leave in the scratch buffers and in the output block. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The chunk is the image's first one. -/
abbrev first (i : grid0.Coords) : Prop :=
  (Scalar.cmpi .ne (Scalar.extui (Scalar.cmpi .eq (BitVec.ofNat 32 (i 1).val) 0#32)) 0#32) = 1#1

/-- The chunk is the image's last one. -/
abbrev last (i : grid0.Coords) : Prop := k0_cond2 i = 1#1

theorem offs₁ (j : ℕ) (h : j < 4) :
    ![0, BitVec.toNat (Scalar.indexCast (Scalar.muli (BitVec.ofNat 32 j) 128#32))] = ![0, 128 * j] := by
  have : j = 0 ∨ j = 1 ∨ j = 2 ∨ j = 3 := by omega
  rcases this with rfl | rfl | rfl | rfl <;> rfl

theorem offs₂ (j : ℕ) (h : j < 4) :
    ![BitVec.toNat (Scalar.indexCast (Scalar.muli (BitVec.ofNat 32 j) 1024#32)), 0] = ![1024 * j, 0] := by
  have : j = 0 ∨ j = 1 ∨ j = 2 ∨ j = 3 := by omega
  rcases this with rfl | rfl | rfl | rfl <;> rfl

/-- The point's channel offset and row offset in plain numbers, and its two conditions. -/
theorem point_facts (t : Fin cfg0.N) :
    (first (grid0.coords t) ↔ t.val % 4 = 0) ∧ (last (grid0.coords t) ↔ t.val % 4 = 3)
      ∧ k0_off1 (grid0.coords t) = ![0, 128 * (t.val % 4)] ∧ k0_off2 (grid0.coords t) = ![1024 * (t.val % 4), 0] := by
  have ht : t.val < 256 := Nat.lt_of_lt_of_eq t.isLt N_0
  have e1 : (grid0.coords t 1).val = t.val / 1 % 4 := Pipeline.Grid.coords_val t 1 (by decide) rfl
  simp only [Nat.div_one] at e1
  have h4 : t.val % 4 < 4 := Nat.mod_lt _ (by decide)
  refine ⟨?_, ?_, ?_, ?_⟩
  · simp only [first, e1]; word_cmp
  · simp only [last, k0_cond2, e1]; word_cmp
  · simp only [k0_off1, e1]
    exact offs₁ _ h4
  · simp only [k0_off2, e1]
    exact offs₂ _ h4

/-- The running sum of squares after one more chunk. -/
def ssqNext (x : Vec F S8192x64 .f32) (s : Vec F S8x512 .f32) : Vec F S8x512 .f32 := k0_pay10 (k0_pay9 x) s
/-- The running product with the centre weights after one more chunk. -/
def accNext (i : grid0.Coords) (x : Vec F S8192x64 .f32) (w : Vec F S64x512 .f32) (u : Vec F S64x4096 .f32) : Vec F S64x4096 .f32 :=
  k0_pay11 (k0_pay9 x) u (VecWindow.window w (k0_off1 i) S64x128.size (k0_off1_inb i))
/-- The chunk's rows as the kernel keeps them. -/
def rowsOf (x : Vec F S8192x64 .f32) : Vec F S1024x512 .bf16 := k0_pay1 (k0_pay12 (k0_pay9 x))
/-- The kept rows after one more chunk. -/
def keepNext (i : grid0.Coords) (x : Vec F S8192x64 .f32) (d : Vec F S4096x512 .bf16) : Vec F S4096x512 .bf16 :=
  VecWindow.put d (k0_off2 i) S1024x512.size (rowsOf x)
/-- The output block the last chunk writes. -/
def outOf (s : Vec F S8x512 .f32) (u : Vec F S64x4096 .f32) (d : Vec F S4096x512 .bf16) (b : Vec F S64x1 .f32) (ce : Vec F S64x512 .f32) :
    Vec F S1x64x512 .f32 := k0_pay2 (k0_pay5 s u b d) ce (k0_pay6 s u b)

/-- A whole-buffer load of known contents reads them. -/
theorem whole_of {s : Shape} {e : EltTy} {sp : Space} {a : Memref sig .tc sp s e} (ha : a.IsWhole) (x : Vec F s e)
    {off : Fin s.rank → ℕ} {inb : ∀ a, off a + s.size a ≤ s.size a} :
    a.view.readAt (Elt F) (Rect.unit off s.size inb).toLoadRect (ha.unread x) = x :=
  (View.readAt_full _ _ _).trans (ha.read_unread _)

/-- A load of a part of known contents reads that part. -/
theorem part_of {s : Shape} {e : EltTy} {sp : Space} {a : Memref sig .tc sp s e} (ha : a.IsWhole) (x : Vec F s e)
    {off size : Fin s.rank → ℕ} {inb : ∀ a, off a + size a ≤ s.size a} :
    a.view.readAt (Elt F) (Rect.unit off size inb).toLoadRect (ha.unread x) = VecWindow.window x off size inb :=
  (View.readAt_unit _ _ _ rfl inb).trans (congrArg (fun f => VecWindow.window f off size inb) (ha.read_unread _))

/-- The kept rows after the chunk's store. -/
theorem keep_of (i : grid0.Coords) (x : Vec F S8192x64 .f32) {a : Memref sig .tc .vmem S4096x512 .bf16} (ha : a.IsWhole) (d : Vec F S4096x512 .bf16)
    {inb : ∀ a, k0_off2 i a + S1024x512.size a ≤ S4096x512.size a} {r : FVec F S1024x512 .bf16} (hr : r = k0_pay12 (k0_pay9 x)) :
    a.view.read (Elt F) (a.view.writes (Elt F) (ha.unread d) [⟨Rect.unit (s := S4096x512) (k0_off2 i) S1024x512.size inb, k0_pay1 r⟩])
      = keepNext i x d := by
  subst hr
  refine (View.read_writes_cons_put _ _ _ _ [] rfl).trans ?_
  rw [View.writes_nil, ha.read_unread]
  rfl

variable (c : Dev nD) (i : grid0.Coords) (arg2 : Memref sig .tc .vmem S8192x64 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S64x512 .f32) (harg5 : arg5.IsWhole) (arg6 : Memref sig .tc .vmem S1x64x512 .f32) (harg6 : arg6.IsWhole) (arg7 : Memref sig .tc .vmem S4096x512 .bf16) (harg7 : arg7.IsWhole) (arg8 : Memref sig .tc .vmem S64x4096 .f32) (harg8 : arg8.IsWhole) (arg9 : Memref sig .tc .vmem S8x512 .f32) (harg9 : arg9.IsWhole) (arg10 : Memref sig .tc .vmem S128x4096 .bf16) (harg10 : arg10.IsWhole)
  (x0 : Vec F S8192x64 .f32) (x1 : Vec F S64x512 .f32) (x2 : Vec F S64x1 .f32) (x3 : Vec F S64x512 .f32) (d6 : Vec F S1x64x512 .f32) (d7 : Vec F S4096x512 .bf16)

set_option maxHeartbeats 2000000 in
/-- An image's first chunk: both running sums restart from zero and take the chunk in, its rows are put in their place, the output block is untouched. -/
theorem step_first (hc0 : first i) (hc1 : ¬last i)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare (keepNext i x0 d7) ∗ owns (c : Thread nD τ) arg8 fullShare (accNext i x0 x1 k0_pay7) ∗ owns (c : Thread nD τ) arg9 fullShare (ssqNext x0 k0_pay8) ∗ (∃ d, owns (c : Thread nD τ) arg10 fullShare d)) -∗ K ⟨⟩))
      ⊢ wp frame (wpE (defs₀ (F := F)) Variants.none c none) E (cc0_netvlad_fused i arg2 harg2 arg3 harg3 arg4 harg4 arg5 harg5 arg6 harg6 arg7 harg7 arg8 harg8 arg9 harg9 arg10 harg10) K := by
  simp only [cc0_netvlad_fused_eq_skeleton]; unfold cc0_netvlad_fused_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | sl_exact hc0 | sl_exact hc1)
  sl_step
  have hx : step_first.sl.v11 c arg2 harg2 arg10 x0 = k0_pay9 x0 :=
    (View.readCov_full _ _ _ _ _).trans (congrArg k0_pay9 (whole_of harg2 _))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [HS0]
  · iexists _; isplitr; swap; · iexact HS0
    ipureintro
    exact keep_of _ _ harg7 d7 (congrArg k0_pay12 hx)
  isplitl [HS1]
  · iexists _; isplitr; swap; · iexact HS1
    ipureintro
    refine (View.read_writes_full _ _ _ _ _).trans ?_
    exact congr (congr (congrArg k0_pay11 hx) (View.readCov_full _ _ _ _ _)) (part_of harg3 _)
  isplitl [HS2]
  · iexists _; isplitr; swap; · iexact HS2
    ipureintro
    refine (View.read_writes_full _ _ _ _ _).trans ?_
    exact congrArg₂ k0_pay10 hx (View.readCov_full _ _ _ _ _)
  iexists _, _; isplitr; swap; · iexact HS3
  ipureintro; rfl

set_option maxHeartbeats 2000000 in
/-- A middle chunk: both running sums take the chunk in, its rows are put in their place, the output block is untouched. -/
theorem step_mid (hc0 : ¬first i) (hc1 : ¬last i)
    (u : Vec F S64x4096 .f32) (s : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare u ∗ owns (c : Thread nD τ) arg9 fullShare s ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare (keepNext i x0 d7) ∗ owns (c : Thread nD τ) arg8 fullShare (accNext i x0 x1 u) ∗ owns (c : Thread nD τ) arg9 fullShare (ssqNext x0 s) ∗ (∃ d, owns (c : Thread nD τ) arg10 fullShare d)) -∗ K ⟨⟩))
      ⊢ wp frame (wpE (defs₀ (F := F)) Variants.none c none) E (cc0_netvlad_fused i arg2 harg2 arg3 harg3 arg4 harg4 arg5 harg5 arg6 harg6 arg7 harg7 arg8 harg8 arg9 harg9 arg10 harg10) K := by
  simp only [cc0_netvlad_fused_eq_skeleton]; unfold cc0_netvlad_fused_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  obtain rfl := harg8.eq_unread hfs1; obtain rfl := harg9.eq_unread hfs2
  sl_exec (disch := first | sl_exact hc0 | sl_exact hc1)
  sl_step
  have hx : step_mid.sl.v11 c arg2 harg2 arg10 x0 = k0_pay9 x0 :=
    (View.readCov_full _ _ _ _ _).trans (congrArg k0_pay9 (whole_of harg2 _))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [HS0]
  · iexists _; isplitr; swap; · iexact HS0
    ipureintro
    exact keep_of _ _ harg7 d7 (congrArg k0_pay12 hx)
  isplitl [HS1]
  · iexists _; isplitr; swap; · iexact HS1
    ipureintro
    refine (View.read_writes_full _ _ _ _ _).trans ?_
    exact congr (congr (congrArg k0_pay11 hx) (whole_of harg8 _)) (part_of harg3 _)
  isplitl [HS2]
  · iexists _; isplitr; swap; · iexact HS2
    ipureintro
    refine (View.read_writes_full _ _ _ _ _).trans ?_
    exact congrArg₂ k0_pay10 hx (whole_of harg9 _)
  iexists _, _; isplitr; swap; · iexact HS3
  ipureintro; rfl

set_option maxHeartbeats 2000000 in
/-- An image's last chunk: as a middle one, and the output block is written from the finished sums and the kept rows. -/
theorem step_last (hc0 : ¬first i) (hc1 : last i)
    (u : Vec F S64x4096 .f32) (s : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare u ∗ owns (c : Thread nD τ) arg9 fullShare s ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outOf (ssqNext x0 s) (accNext i x0 x1 u) (keepNext i x0 d7) x2 x3) ∗ owns (c : Thread nD τ) arg7 fullShare (keepNext i x0 d7) ∗ owns (c : Thread nD τ) arg8 fullShare (accNext i x0 x1 u) ∗ owns (c : Thread nD τ) arg9 fullShare (ssqNext x0 s) ∗ (∃ d, owns (c : Thread nD τ) arg10 fullShare d)) -∗ K ⟨⟩))
      ⊢ wp frame (wpE (defs₀ (F := F)) Variants.none c none) E (cc0_netvlad_fused i arg2 harg2 arg3 harg3 arg4 harg4 arg5 harg5 arg6 harg6 arg7 harg7 arg8 harg8 arg9 harg9 arg10 harg10) K := by
  simp only [cc0_netvlad_fused_eq_skeleton]; unfold cc0_netvlad_fused_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  obtain rfl := harg8.eq_unread hfs1; obtain rfl := harg9.eq_unread hfs2
  sl_exec (disch := first | sl_exact hc0 | sl_exact hc1)
  sl_step
  have hx : step_last.sl.v11 c arg2 harg2 arg10 x0 = k0_pay9 x0 :=
    (View.readCov_full _ _ _ _ _).trans (congrArg k0_pay9 (whole_of harg2 _))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    have e5 : step_last.sl.r_1 c i arg2 harg2 arg3 harg3 arg4 harg4 arg7 harg7 arg8 harg8 arg9 harg9 arg10 x0 x1 x2 d7 u s
        = k0_pay5 (ssqNext x0 s) (accNext i x0 x1 u) x2 (keepNext i x0 d7) :=
      congr (congr (congr (congrArg k0_pay5 ((View.readCov_full _ _ _ _ _).trans (congrArg₂ k0_pay10 hx (whole_of harg9 _))))
        ((View.readCov_full _ _ _ _ _).trans (congr (congr (congrArg k0_pay11 hx) (whole_of harg8 _)) (part_of harg3 _))))
        (whole_of harg4 _)) ((View.readAt_full _ _ _).trans (keep_of _ _ harg7 d7 (congrArg k0_pay12 hx)))
    have e6 : step_last.sl.r_3 c i arg2 harg2 arg3 harg3 arg4 harg4 arg8 harg8 arg9 harg9 arg10 x0 x1 x2 u s
        = k0_pay6 (ssqNext x0 s) (accNext i x0 x1 u) x2 :=
      congr (congr (congrArg k0_pay6 ((View.readCov_full _ _ _ _ _).trans (congrArg₂ k0_pay10 hx (whole_of harg9 _))))
        ((View.readCov_full _ _ _ _ _).trans (congr (congr (congrArg k0_pay11 hx) (whole_of harg8 _)) (part_of harg3 _))))
        (whole_of harg4 _)
    have e3 : step_last.sl.r_2 c arg5 harg5 x3 = x3 := whole_of harg5 _
    show k0_pay2 _ _ _ = k0_pay2 _ _ _
    exact congr (congr (congrArg k0_pay2 e5) e3) e6
  isplitl [HS0]
  · iexists _; isplitr; swap; · iexact HS0
    ipureintro
    exact keep_of _ _ harg7 d7 (congrArg k0_pay12 hx)
  isplitl [HS1]
  · iexists _; isplitr; swap; · iexact HS1
    ipureintro
    refine (View.read_writes_full _ _ _ _ _).trans ?_
    exact congr (congr (congrArg k0_pay11 hx) (whole_of harg8 _)) (part_of harg3 _)
  isplitl [HS2]
  · iexists _; isplitr; swap; · iexact HS2
    ipureintro
    refine (View.read_writes_full _ _ _ _ _).trans ?_
    exact congrArg₂ k0_pay10 hx (whole_of harg9 _)
  iexists _, _; isplitr; swap; · iexact HS3
  ipureintro; rfl

end Cert.KernelIdeal.Hand

end
-- ==== Proof.Run.lean ====
/- The kernel's run over the whole grid: what its scratch buffers hold before each point, what each image's last
   point leaves in the output block, and the launch carried from them. -/
module

public import proofs.«01_k».proof.Proof.Step
public import Idealize.ShloMosaic.Lib.Claim
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a position, wrapped around the grid. -/
def pt (n : ℕ) : Fin cfg0.N := ⟨n % 256, by rw [show cfg0.N = 256 from N_0]; exact Nat.mod_lt _ (by decide)⟩

theorem pt_val (t : Fin cfg0.N) : pt t.val = t :=
  Fin.ext (Nat.mod_eq_of_lt (Nat.lt_of_lt_of_eq t.isLt N_0))

/-- The image's block the point at position `n` reads. -/
def chunk (c : Dev nD) (n : ℕ) : Vec F S8192x64 .f32 := iblk m c 0 (pt n)

/-- The sum of squares of image `b` over its first `j` chunks. -/
def ssq (c : Dev nD) (b : ℕ) : ℕ → Vec F S8x512 .f32
  | 0 => k0_pay8
  | j + 1 => ssqNext (chunk m c (4 * b + j)) (ssq c b j)

/-- The product of the centre weights with image `b` over its first `j` chunks. -/
def acc (c : Dev nD) (b : ℕ) : ℕ → Vec F S64x4096 .f32
  | 0 => k0_pay7
  | j + 1 => accNext (grid0.coords (pt (4 * b + j))) (chunk m c (4 * b + j)) (iblk m c 1 (pt (4 * b + j))) (acc c b j)

/-- The rows kept of image `b`'s first `j` chunks are theirs. -/
def Kept (c : Dev nD) (b j : ℕ) (d : Vec F S4096x512 .bf16) : Prop :=
  ∀ k, k < j → VecWindow.window d (k0_off2 (grid0.coords (pt (4 * b + k)))) S1024x512.size (k0_off2_inb _) = rowsOf (chunk m c (4 * b + k))

/-- All rows of image `b`. -/
def rows (c : Dev nD) (b : ℕ) : Vec F S4096x512 .bf16 :=
  fun y => rowsOf (chunk m c (4 * b + (y 0).val / 1024)) (ix2 (n0 := 1024) (n1 := 512) ⟨(y 0).val % 1024, Nat.mod_lt _ (by decide)⟩ (y 1))

/-- The output block of image `b`. -/
def block (c : Dev nD) (b : ℕ) : Vec F S1x64x512 .f32 :=
  outOf (ssq m c b 4) (acc m c b 4) (rows m c b) (iblk m c 2 (pt (4 * b + 3))) (iblk m c 3 (pt (4 * b + 3)))

theorem off2_pt (b k : ℕ) (hb : b < 64) (hk : k < 4) : k0_off2 (grid0.coords (pt (4 * b + k))) = ![1024 * k, 0] := by
  have h := (point_facts (pt (4 * b + k))).2.2.2
  have e : (pt (4 * b + k)).val = (4 * b + k) % 256 := rfl
  rw [h, e]
  have : (4 * b + k) % 256 % 4 = k := by omega
  rw [this]

/-- One more chunk's rows keep the earlier ones and add their own. -/
theorem Kept.next {c : Dev nD} {b j : ℕ} (hb : b < 64) (hj : j < 4) {d : Vec F S4096x512 .bf16} (h : Kept m c b j d) :
    Kept m c b (j + 1) (keepNext (grid0.coords (pt (4 * b + j))) (chunk m c (4 * b + j)) d) := by
  intro k hk
  rcases Nat.lt_succ_iff_lt_or_eq.mp hk with h' | rfl
  · refine (VecWindow.window_put_of_disjoint _ _ _ _ _ _ _ (0 : Fin 2) (.inl ?_)).trans (h k h')
    rw [off2_pt b k hb (by omega), off2_pt b j hb hj]
    show 1024 * k + 1024 ≤ 1024 * j
    omega
  · exact VecWindow.window_put_same _ _ _ _ _

/-- With all four chunks in, the kept rows are the image's rows. -/
theorem Kept.all {c : Dev nD} {b : ℕ} (hb : b < 64) {d : Vec F S4096x512 .bf16} (h : Kept m c b 4 d) : d = rows m c b := by
  funext y
  have hy : (y 0).val < 4096 := (y 0).isLt
  have hk : (y 0).val / 1024 < 4 := by omega
  refine Eq.trans ?_ (congrFun (h _ hk) (ix2 (n0 := 1024) (n1 := 512) ⟨(y 0).val % 1024, Nat.mod_lt _ (by decide)⟩ (y 1)))
  refine congrArg d (funext fun a => Fin.ext ?_)
  have e := off2_pt b _ hb hk
  match a with
  | ⟨0, _⟩ =>
    have e0 : k0_off2 (grid0.coords (pt (4 * b + (y 0).val / 1024))) 0 = 1024 * ((y 0).val / 1024) := congrFun e 0
    show (y 0).val = k0_off2 (grid0.coords (pt (4 * b + (y 0).val / 1024))) 0 + 1 * ((y 0).val % 1024)
    omega
  | ⟨1, _⟩ =>
    have e1 : k0_off2 (grid0.coords (pt (4 * b + (y 0).val / 1024))) 1 = 0 := congrFun e 1
    show (y 1).val = k0_off2 (grid0.coords (pt (4 * b + (y 0).val / 1024))) 1 + 1 * (y 1).val
    omega

/-! ## The staging and scratch memrefs -/

abbrev ms0 (t : Fin cfg0.N) : Memref sig .tc .vmem S8192x64 .f32 := win0_0.stage (cfg0.slots t 0)
abbrev ms1 (t : Fin cfg0.N) : Memref sig .tc .vmem S64x512 .f32 := win0_1.stage (cfg0.slots t 1)
abbrev ms2 (t : Fin cfg0.N) : Memref sig .tc .vmem S64x1 .f32 := win0_2.stage (cfg0.slots t 2)
abbrev ms3 (t : Fin cfg0.N) : Memref sig .tc .vmem S64x512 .f32 := win0_3.stage (cfg0.slots t 3)
abbrev ms4 (t : Fin cfg0.N) : Memref sig .tc .vmem S1x64x512 .f32 := win0_4.stage (cfg0.slots t 4)
abbrev sc0 : Memref sig .tc .vmem S4096x512 .bf16 := Memref.whole cc0_scratch0
abbrev sc1 : Memref sig .tc .vmem S64x4096 .f32 := Memref.whole cc0_scratch1
abbrev sc2 : Memref sig .tc .vmem S8x512 .f32 := Memref.whole cc0_scratch2
abbrev sc3 : Memref sig .tc .vmem S128x4096 .bf16 := Memref.whole cc0_scratch3

/-- The launch's invariant, its scratch buffers as memrefs at some contents. -/
theorem launch_inv (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant inside an image: `j` chunks of image `b` are in. -/
def inside (c : Dev nD) (b j : ℕ) : sProp 𝕄 :=
  iprop(iprop((∃ d, ⌜Kept m c b j d⌝ ∗ owns (c : Thread nD τ) sc0 fullShare d) ∗ owns (c : Thread nD τ) sc1 fullShare (acc m c b j) ∗ owns (c : Thread nD τ) sc2 fullShare (ssq m c b j) ∗ (∃ d, owns (c : Thread nD τ) sc3 fullShare d)) ∗ (∃ r, prngReg c r))

/-- The invariant before the point at position `n`: between images nothing of the scratch is known. -/
def inv (c : Dev nD) (n : ℕ) (_ : n ≤ cfg0.N) : sProp 𝕄 :=
  if n % 4 = 0 then Pipeline.ΦA spec0 c else inside m c (n / 4) (n % 4)

/-- The proof data of the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c (t.val / 4)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block m c (t.val / 4) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The four inputs' buffers at their blocks. -/
def inputs (c : Dev nD) (t : Fin cfg0.N) : sProp 𝕄 :=
  iprop(owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t))

theorem leaves_0 (c : Dev nD) (t : Fin cfg0.N) : (dats m 0 c).leavesExact 0 t = owns (c : Thread nD τ) (ms0 t) fullShare (iblk m c 0 t) := by
  rw [← after_0 m c t]
theorem leaves_1 (c : Dev nD) (t : Fin cfg0.N) : (dats m 0 c).leavesExact 1 t = owns (c : Thread nD τ) (ms1 t) fullShare (iblk m c 1 t) := by
  rw [← after_1 m c t]
theorem leaves_2 (c : Dev nD) (t : Fin cfg0.N) : (dats m 0 c).leavesExact 2 t = owns (c : Thread nD τ) (ms2 t) fullShare (iblk m c 2 t) := by
  rw [← after_2 m c t]
theorem leaves_3 (c : Dev nD) (t : Fin cfg0.N) : (dats m 0 c).leavesExact 3 t = owns (c : Thread nD τ) (ms3 t) fullShare (iblk m c 3 t) := by
  rw [← after_3 m c t]

theorem idle_4 (t : Fin cfg0.N) : cfg0.idle 4 (grid0.coords t) = !(decide (t.val % 4 = 3)) := by
  have h := (point_facts t).2.1
  show (!(k0_cond2 (grid0.coords t) == 1#1)) = _
  by_cases h3 : t.val % 4 = 3
  · have := h.mpr h3; rw [show k0_cond2 (grid0.coords t) = 1#1 from this, decide_eq_true h3]; rfl
  · have : ¬ k0_cond2 (grid0.coords t) = 1#1 := fun e => h3 (h.mp e)
    rw [decide_eq_false h3, beq_eq_false_iff_ne.mpr this]

theorem leaves_4_last (c : Dev nD) (t : Fin cfg0.N) (h : t.val % 4 = 3) :
    (dats m 0 c).leavesExact 4 t = owns (c : Thread nD τ) (ms4 t) fullShare (block m c (t.val / 4)) := by
  rw [← after_4 m c t]; unfold Dat.leavesExact; rw [idle_4, decide_eq_true h]; rfl

theorem leaves_4_idle (c : Dev nD) (t : Fin cfg0.N) (h : ¬ t.val % 4 = 3) :
    (dats m 0 c).leavesExact 4 t = iprop(∃ d, owns (c : Thread nD τ) (ms4 t) fullShare ((dats m 0 c).before 4 t d)) :=
  (dats m 0 c).leavesExact_idle 4 t (by rw [idle_4, decide_eq_false h]; rfl)
    (by rw [← Bool.not_eq_true]; exact fun e => h ((flush0_4 t).mp e))

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

theorem inv_zero (c : Dev nD) (n : ℕ) (hn) (h : n % 4 = 0) : inv m c n hn = Pipeline.ΦA spec0 c := if_pos h
theorem inv_inside (c : Dev nD) (n : ℕ) (hn) (h : n % 4 ≠ 0) : inv m c n hn = inside m c (n / 4) (n % 4) := if_neg h

theorem acc_next (c : Dev nD) (t : Fin cfg0.N) :
    acc m c (t.val / 4) (t.val % 4 + 1) = accNext (grid0.coords t) (iblk m c 0 t) (iblk m c 1 t) (acc m c (t.val / 4) (t.val % 4)) := by
  have e : 4 * (t.val / 4) + t.val % 4 = t.val := by omega
  refine (show acc m c (t.val / 4) (t.val % 4 + 1) = accNext _ (chunk m c _) (iblk m c 1 (pt (4 * (t.val / 4) + t.val % 4))) _ from rfl).trans ?_
  rw [e, chunk, pt_val]
theorem ssq_next (c : Dev nD) (t : Fin cfg0.N) :
    ssq m c (t.val / 4) (t.val % 4 + 1) = ssqNext (iblk m c 0 t) (ssq m c (t.val / 4) (t.val % 4)) := by
  have e : 4 * (t.val / 4) + t.val % 4 = t.val := by omega
  refine (show ssq m c (t.val / 4) (t.val % 4 + 1) = ssqNext (chunk m c (4 * (t.val / 4) + t.val % 4)) _ from rfl).trans ?_
  rw [e, chunk, pt_val]
theorem kept_next (c : Dev nD) (t : Fin cfg0.N) {d : Vec F S4096x512 .bf16} (h : Kept m c (t.val / 4) (t.val % 4) d) :
    Kept m c (t.val / 4) (t.val % 4 + 1) (keepNext (grid0.coords t) (iblk m c 0 t) d) := by
  have hN : t.val < 256 := Nat.lt_of_lt_of_eq t.isLt N_0
  have e : 4 * (t.val / 4) + t.val % 4 = t.val := by omega
  have := h.next m (by omega) (Nat.mod_lt _ (by decide))
  rw [e, chunk, pt_val] at this
  exact this

end Cert.KernelIdeal.Hand

end
-- ==== Proof.Frame.lean ====
/- The kernel's body at every grid point, and the run of the whole program carried from it. -/
module

public import proofs.«01_k».proof.Proof.Run
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Φ_succ (c : Dev nD) (t : Fin cfg0.N) : (dats m 0 c).Φ t.succ = inv m c (t.val + 1) t.isLt := by
  dsimp only [dats]; rfl

theorem block_last (c : Dev nD) (t : Fin cfg0.N) (h : t.val % 4 = 3) {d : Vec F S4096x512 .bf16} (hd : Kept m c (t.val / 4) (t.val % 4) d) :
    outOf (ssqNext (iblk m c 0 t) (ssq m c (t.val / 4) (t.val % 4))) (accNext (grid0.coords t) (iblk m c 0 t) (iblk m c 1 t) (acc m c (t.val / 4) (t.val % 4)))
      (keepNext (grid0.coords t) (iblk m c 0 t) d) (iblk m c 2 t) (iblk m c 3 t) = block m c (t.val / 4) := by
  have hN : t.val < 256 := Nat.lt_of_lt_of_eq t.isLt N_0
  have hk := kept_next m c t hd
  rw [← acc_next, ← ssq_next]
  have e : 4 * (t.val / 4) + 3 = t.val := by omega
  have e4 : t.val % 4 + 1 = 4 := by omega
  rw [e4] at hk ⊢
  rw [hk.all m (by omega)]
  unfold block
  rw [e, pt_val]

set_option maxHeartbeats 1000000 in
/-- The body at a grid point keeps the invariant and leaves the output block at an image's last chunk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, inv_castSucc, Φ_succ,
    leaves_0, leaves_1, leaves_2, leaves_3]
  have hN : t.val < 256 := Nat.lt_of_lt_of_eq t.isLt N_0
  obtain ⟨pf, pl, -⟩ := point_facts t
  by_cases h0 : t.val % 4 = 0
  · have h3 : ¬ t.val % 4 = 3 := by omega
    have hk : Kept m c (t.val / 4) (t.val % 4) = Kept m c (t.val / 4) 0 := by rw [h0]
    rw [inv_zero m c _ _ h0, launch_inv, inv_inside m c _ _ (show (t.val + 1) % 4 ≠ 0 by omega), leaves_4_idle m c t h3]
    rw [show (t.val + 1) / 4 = t.val / 4 by omega, show (t.val + 1) % 4 = t.val % 4 + 1 by omega]
    unfold inside
    rw [acc_next, ssq_next, show acc m c (t.val / 4) (t.val % 4) = k0_pay7 by rw [h0]; rfl,
      show ssq m c (t.val / 4) (t.val % 4) = k0_pay8 by rw [h0]; rfl]
    iintro ⟨⟨⟨⟨%d7, HS0⟩, HS1, HS2, HS3⟩, Hg⟩, Hw, ⟨%_, H0⟩, ⟨%_, H1⟩, ⟨%_, H2⟩, ⟨%_, H3⟩, ⟨%d, H4⟩⟩
    iapply (step_first c _ _ _ _ _ _ _ _ _ _ _ _ _ _ _ _ _ _ _ (iblk m c 0 t) (iblk m c 1 t) (iblk m c 2 t) (iblk m c 3 t) ((dats m 0 c).before 4 t d) d7 (pf.mpr h0) (fun h => h3 (pl.mp h)))
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitr [Hg]
      · isplitl [HS0]
        · iexists _; isplitr; swap; · iexact HS0
          ipureintro
          exact kept_next m c t (hk ▸ fun k hk => absurd hk (Nat.not_lt_zero k))
        isplitl [HS1]; · iexact HS1
        isplitl [HS2]; · iexact HS2
        iexact HS3
      · iexact Hg
    isplitl [Hw]; · iexact Hw
    isplitl [H0]; · iexact H0
    isplitl [H1]; · iexact H1
    isplitl [H2]; · iexact H2
    isplitl [H3]; · iexact H3
    iexists d; iexact H4
  · rw [inv_inside m c _ _ h0]
    by_cases h3 : t.val % 4 = 3
    · rw [inv_zero m c _ _ (show (t.val + 1) % 4 = 0 by omega), launch_inv, leaves_4_last m c t h3]
      unfold inside
      iintro ⟨⟨⟨⟨%d7, %hd, HS0⟩, HS1, HS2, HS3⟩, Hg⟩, Hw, ⟨%_, H0⟩, ⟨%_, H1⟩, ⟨%_, H2⟩, ⟨%_, H3⟩, ⟨%d, H4⟩⟩
      rw [← block_last m c t h3 hd]
      iapply (step_last c _ _ _ _ _ _ _ _ _ _ _ _ _ _ _ _ _ _ _ (iblk m c 0 t) (iblk m c 1 t) (iblk m c 2 t) (iblk m c 3 t) ((dats m 0 c).before 4 t d) d7 (fun h => h0 (pf.mp h)) (pl.mpr h3) (acc m c (t.val / 4) (t.val % 4)) (ssq m c (t.val / 4) (t.val % 4)))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitr [Hg]
        · isplitl [HS0]; · iexists _; iexact HS0
          isplitl [HS1]; · iexists _; iexact HS1
          isplitl [HS2]; · iexists _; iexact HS2
          iexact HS3
        · iexact Hg
      isplitl [Hw]; · iexact Hw
      isplitl [H0]; · iexact H0
      isplitl [H1]; · iexact H1
      isplitl [H2]; · iexact H2
      isplitl [H3]; · iexact H3
      iexact H4
    · rw [inv_inside m c _ _ (show (t.val + 1) % 4 ≠ 0 by omega), leaves_4_idle m c t h3]
      rw [show (t.val + 1) / 4 = t.val / 4 by omega, show (t.val + 1) % 4 = t.val % 4 + 1 by omega]
      unfold inside
      rw [acc_next, ssq_next]
      iintro ⟨⟨⟨⟨%d7, %hd, HS0⟩, HS1, HS2, HS3⟩, Hg⟩, Hw, ⟨%_, H0⟩, ⟨%_, H1⟩, ⟨%_, H2⟩, ⟨%_, H3⟩, ⟨%d, H4⟩⟩
      iapply (step_mid c _ _ _ _ _ _ _ _ _ _ _ _ _ _ _ _ _ _ _ (iblk m c 0 t) (iblk m c 1 t) (iblk m c 2 t) (iblk m c 3 t) ((dats m 0 c).before 4 t d) d7 (fun h => h0 (pf.mp h)) (fun h => h3 (pl.mp h)) (acc m c (t.val / 4) (t.val % 4)) (ssq m c (t.val / 4) (t.val % 4)))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitr [Hg]
        · isplitl [HS0]
          · iexists _; isplitr; swap; · iexact HS0
            ipureintro
            exact kept_next m c t hd
          isplitl [HS1]; · iexact HS1
          isplitl [HS2]; · iexact HS2
          iexact HS3
        · iexact Hg
      isplitl [Hw]; · iexact Hw
      isplitl [H0]; · iexact H0
      isplitl [H1]; · iexact H1
      isplitl [H2]; · iexact H2
      isplitl [H3]; · iexact H3
      iexists d; iexact H4

theorem defs₀_row (t : Fin cfg0.N) : defs₀ (F := F) .tc cfg0.body (cfg0.bodyArgs t (cfg0.slots t)) = bodyAt0 t := by
  unfold defs₀; rw [Defs.onTc_tc]

/-- Every point of the grid keeps the run's data. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

theorem inv_enter (c : Dev nD) : Pipeline.ΦA (cfgs 0).spec c ⊢ (dats m 0 c).Φ 0 := by
  rw [show (dats m 0 c).Φ 0 = Pipeline.ΦA spec0 c from inv_zero m c 0 (Nat.zero_le _) rfl]
theorem inv_leave (c : Dev nD) : (dats m 0 c).Φ (Fin.last (cfgs 0).N) ⊢ Pipeline.ΦA (cfgs 0).spec c := by
  rw [show (dats m 0 c).Φ (Fin.last (cfgs 0).N) = Pipeline.ΦA spec0 c from inv_zero m c cfg0.N (Nat.le_refl _) (by rw [show cfg0.N = 256 from N_0])]

set_option maxHeartbeats 800000 in
set_option backward.isDefEq.respectTransparency.types false in
/-- The run of the program: every array as the grid leaves it, every other buffer as the lines after the launch leave it, every counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_enter m) (hout := inv_leave m)
    (Q' := fun r => Pipeline.FramePost cfgs (dats m) 0 (Pipeline.afterTail₀ cfgs (dats m) 0 (V0 m) [hostOps1]) r ∧ r.2.sem = fun _ => 0)
    (hQ' := fun _ h => h)

/-- The run leaves the arguments as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  frame_of m ρ (dats m) (A_eq m) ((θ_run defs _ _).mono (fun _ h => h.1) (run m ρ))

end Cert.KernelIdeal.Hand

end
-- ==== Proof.Spec.lean ====
/- The mathematics both programs compute, in plain functions over the extended reals. -/
module

public import Idealize.ShloMosaic.Lib.Pointwise

@[expose] public section

noncomputable section

namespace Cert.Netvlad

open Idealize.ShloMosaic

/-- The smallest length a vector is divided by. -/
def eps : EReal := Ideal.ofBits FTy.f32 0x2B8CBCCC#32

/-- The length to divide by, from a sum of squares. -/
def nrm (s : EReal) : EReal := max (Ideal.sqrt s) eps

/-- The greatest of the 64 logits. -/
def top (l : Fin 64 → EReal) : EReal := Finset.univ.fold max (Ideal.ofBits FTy.f32 0xFF800000#32) l

/-- The softmax of 64 logits. -/
def soft (l : Fin 64 → EReal) (k : Fin 64) : EReal :=
  Ideal.div (Ideal.exp (l k - top l)) (∑ k', Ideal.exp (l k' - top l))

/-- The soft assigned residuals: at the centre `k`, the rows `z` weighted by `a`, less the centre times the weights. -/
def resid (a : Fin 64 → Fin 4096 → EReal) (z : Fin 4096 → Fin 512 → EReal) (ce : Fin 64 → Fin 512 → EReal) (k : Fin 64) (q : Fin 512) : EReal :=
  ∑ i, a k i * z i q - (∑ i, a k i) * ce k q

/-- Every row divided by its length. -/
def intra (v : Fin 64 → Fin 512 → EReal) (k : Fin 64) (q : Fin 512) : EReal :=
  Ideal.div (v k q) (nrm (∑ q', v k q' * v k q'))

/-- The whole table divided by its length. -/
def whole (v : Fin 64 → Fin 512 → EReal) (k : Fin 64) (q : Fin 512) : EReal :=
  Ideal.div (v k q) (nrm (∑ k', ∑ q', v k' q' * v k' q'))

/-- The descriptor of one image, from its logits, its rows and the centres. -/
def vlad (l : Fin 64 → Fin 4096 → EReal) (z : Fin 4096 → Fin 512 → EReal) (ce : Fin 64 → Fin 512 → EReal) : Fin 64 → Fin 512 → EReal :=
  whole (intra (resid (fun k i => soft (fun k' => l k' i) k) z ce))

/-- The flat position of the pixel that row `i` holds at column `q`. -/
def pix (i : Fin 4096) (q : Fin 512) : Fin 4096 := ⟨i.val % 8 * 512 + q.val, by omega⟩

/-- The channel row `i` belongs to. -/
def chan (i : Fin 4096) : Fin 512 := ⟨i.val / 8, by omega⟩

end Cert.Netvlad
-- ==== Proof.Pay.lean ====
/- What each step of the kernel's body computes, read at an index over the extended reals. -/
module

public import proofs.«01_k».proof.Proof.Gen.KernelIdeal.Skeleton
public import proofs.«01_k».proof.Proof.Spec

@[expose] public section

set_option maxRecDepth 16384

noncomputable section

namespace Cert.KernelIdeal.Hand

open Idealize.ShloMosaic Cert.KernelIdeal.Gen Cert.Netvlad

/-- A chunk's block, channels down and flat pixels across. -/
theorem pay9_apply (x : Vec Ideal S8192x64 .f32) (r : Fin 128) (p : Fin 4096) :
    k0_pay9 x (ix2 r p) = x (ix2 ⟨r.val * 64 + p.val / 64, by omega⟩ ⟨p.val % 64, Nat.mod_lt _ (by decide)⟩) := by
  pointwise [k0_pay9]

/-- A chunk's block cut in rows of 512 pixels, eight for each channel. -/
theorem pay12_apply (v : Vec Ideal S128x4096 .bf16) (r : Fin 1024) (q : Fin 512) :
    k0_pay1 (k0_pay12 v) (ix2 r q) = v (ix2 ⟨r.val / 8, by omega⟩ ⟨r.val % 8 * 512 + q.val, by omega⟩) := by
  pointwise [k0_pay1, k0_pay12]

/-- The sum of squares gains the chunk's channels. -/
theorem pay10_apply (v : Vec Ideal S128x4096 .bf16) (s : Vec Ideal S8x512 .f32) (r : Fin 8) (q : Fin 512) :
    k0_pay10 v s (ix2 r q)
      = s (ix2 r q) + ∑ c : Fin 128, v (ix2 c ⟨r.val * 512 + q.val, by omega⟩) * v (ix2 c ⟨r.val * 512 + q.val, by omega⟩) := by
  pointwise [k0_pay10]

/-- The product gains the chunk's channels. -/
theorem pay11_apply (v : Vec Ideal S128x4096 .bf16) (u : Vec Ideal S64x4096 .f32) (w : Vec Ideal S64x128 .f32) (k : Fin 64) (p : Fin 4096) :
    k0_pay11 v u w (ix2 k p) = u (ix2 k p) + ∑ c : Fin 128, w (ix2 k c) * v (ix2 c p) := by
  pointwise [k0_pay11]

/-- The accumulators start at zero. -/
theorem pay7_apply (k : Fin 64) (p : Fin 4096) : (k0_pay7 : FVec Ideal S64x4096 .f32) (ix2 k p) = 0 := by
  pointwise [k0_pay7]

theorem pay8_apply (r : Fin 8) (q : Fin 512) : (k0_pay8 : FVec Ideal S8x512 .f32) (ix2 r q) = 0 := by
  pointwise [k0_pay8]

/-- The factor a pixel's column is scaled by: one over the column's length. -/
theorem pay3_apply (s : Vec Ideal S8x512 .f32) (r : Fin 8) (q : Fin 512) :
    k0_pay3 s (ix2 r q) = Ideal.div (Ideal.ofBits FTy.f32 0x3F800000#32) (nrm (s (ix2 r q))) := by
  pointwise [k0_pay3, nrm, eps]
  try rfl

/-- Eight rows of 512 laid end to end, read at a position. -/
theorem ladder (f : Fin 8 → Fin 512 → EReal) (p : Fin 4096) :
    (if h : p.val < 512 then f 0 ⟨p.val, h⟩
      else if h : p.val - 512 < 512 then f 1 ⟨p.val - 512, h⟩
      else if h : p.val - 512 - 512 < 512 then f 2 ⟨p.val - 512 - 512, h⟩
      else if h : p.val - 512 - 512 - 512 < 512 then f 3 ⟨p.val - 512 - 512 - 512, h⟩
      else if h : p.val - 512 - 512 - 512 - 512 < 512 then f 4 ⟨p.val - 512 - 512 - 512 - 512, h⟩
      else if h : p.val - 512 - 512 - 512 - 512 - 512 < 512 then f 5 ⟨p.val - 512 - 512 - 512 - 512 - 512, h⟩
      else if h : p.val - 512 - 512 - 512 - 512 - 512 - 512 < 512 then f 6 ⟨p.val - 512 - 512 - 512 - 512 - 512 - 512, h⟩
      else f 7 ⟨p.val - 512 - 512 - 512 - 512 - 512 - 512 - 512, by omega⟩)
      = f ⟨p.val / 512, by omega⟩ ⟨p.val % 512, Nat.mod_lt _ (by decide)⟩ := by
  split_ifs
  all_goals exact congrArg₂ f (Fin.ext (by simp; omega)) (Fin.ext (by simp; omega))

/-- The weight of pixel `p` at centre `k`: the softmax over the centres of the scaled product plus the bias. -/
theorem pay4_apply (s : Vec Ideal S8x512 .f32) (u : Vec Ideal S64x4096 .f32) (b : Vec Ideal S64x1 .f32) (k : Fin 64) (p : Fin 4096) :
    k0_pay4 s u b (ix2 k p)
      = soft (fun k' => u (ix2 k' p) * k0_pay3 s (ix2 ⟨p.val / 512, by omega⟩ ⟨p.val % 512, Nat.mod_lt _ (by decide)⟩) + b (ix2 k' 0)) k := by
  have L := ladder (fun r q => k0_pay3 s (ix2 r q)) p
  beta_reduce at L
  pointwise [k0_pay4]
  simp only [L]
  rfl

/-- The rows, scaled and summed under the weights. -/
theorem pay5_apply (s : Vec Ideal S8x512 .f32) (u : Vec Ideal S64x4096 .f32) (b : Vec Ideal S64x1 .f32) (d : Vec Ideal S4096x512 .bf16) (k : Fin 64) (q : Fin 512) :
    k0_pay5 s u b d (ix2 k q)
      = ∑ i : Fin 4096, k0_pay4 s u b (ix2 k i) * (d (ix2 i q) * k0_pay3 s (ix2 ⟨i.val % 8, Nat.mod_lt _ (by decide)⟩ q)) := by
  pointwise [k0_pay5]

/-- The weights of a centre summed. -/
theorem pay6_apply (s : Vec Ideal S8x512 .f32) (u : Vec Ideal S64x4096 .f32) (b : Vec Ideal S64x1 .f32) (k : Fin 64) (q : Fin 512) :
    k0_pay6 s u b (ix2 k q) = ∑ i : Fin 4096, k0_pay4 s u b (ix2 k i) := by
  pointwise [k0_pay6]

/-- The residual's two normalisations. -/
theorem pay2_apply (v ce a : Vec Ideal S64x512 .f32) (k : Fin 64) (q : Fin 512) :
    k0_pay2 v ce a (ix3 0 k q) = whole (intra fun k q => v (ix2 k q) - a (ix2 k q) * ce (ix2 k q)) k q := by
  pointwise [k0_pay2, whole, intra, nrm, eps]
  rfl

end Cert.KernelIdeal.Hand
-- ==== Proof.Blocks.lean ====
/- The blocks the kernel's windows hold at a grid point, as elements of the arguments. -/
module

public import proofs.«01_k».proof.Proof.Run
public import proofs.«01_k».proof.Proof.Pay
public import Idealize.ShloMosaic.Lib.Pipeline.ValueKit
public import Idealize.ShloMosaic.Lib.StableHlo.ReadAt

@[expose] public section

set_option maxRecDepth 16384

noncomputable section

namespace Cert.KernelIdeal.Hand

open Idealize.ShloMosaic Idealize.ShloMosaic.TcCoe Cert.KernelIdeal.Gen Cert.Netvlad

variable (m : (ℓ : Loc nD τ sig) → Buf (Elt Ideal) ℓ)

/-- The first reshape: the images' rows of 64 pixels, all in one column of rows. -/
theorem V_v0 (c : Dev nD) (r : Fin 2097152) (w : Fin 64) :
    V m c main_v0 (ix2 r w)
      = m ((c : Thread nD τ).loc main_arg0) (ix4 ⟨r.val / 32768, by omega⟩ ⟨r.val / 64 % 512, by omega⟩ ⟨r.val % 64, by omega⟩ w) := by
  unfold V
  after_reads_at

/-- The second reshape: the bias as a column. -/
theorem V_v1 (c : Dev nD) (k : Fin 64) :
    V m c main_v1 (ix2 k 0) = m ((c : Thread nD τ).loc main_arg2) (ix1 k) := by
  unfold V
  after_reads_at

theorem index_0 : ∀ t : Fin cfg0.N, win0_0.index t = ![t.val, 0] :=
  (by decide +kernel : ∀ t : Fin grid0.N, _)
theorem index_1 : ∀ t : Fin cfg0.N, win0_1.index t = ![0, 0] :=
  (by decide +kernel : ∀ t : Fin grid0.N, _)
theorem index_2 : ∀ t : Fin cfg0.N, win0_2.index t = ![0, 0] :=
  (by decide +kernel : ∀ t : Fin grid0.N, _)
theorem index_3 : ∀ t : Fin cfg0.N, win0_3.index t = ![0, 0] :=
  (by decide +kernel : ∀ t : Fin grid0.N, _)
theorem index_4 : ∀ t : Fin cfg0.N, win0_4.index t = ![t.val / 4, 0, 0] :=
  (by decide +kernel : ∀ t : Fin grid0.N, _)

theorem iblk_0 (c : Dev nD) (t : Fin cfg0.N) (r : Fin 8192) (w : Fin 64) :
    iblk m c 0 t (ix2 r w) = V m c main_v0 (ix2 ⟨t.val * 8192 + r.val, by have := t.isLt; have e : cfg0.N = 256 := N_0; omega⟩ w) := by
  blk_ext [iblk, index_0 t]

theorem iblk_1 (c : Dev nD) (t : Fin cfg0.N) (k : Fin 64) (q : Fin 512) :
    iblk m c 1 t (ix2 k q) = m ((c : Thread nD τ).loc main_arg1) (ix2 k q) := by
  blk_ext [iblk, V, index_1 t]

theorem iblk_2 (c : Dev nD) (t : Fin cfg0.N) (k : Fin 64) :
    iblk m c 2 t (ix2 k 0) = m ((c : Thread nD τ).loc main_arg2) (ix1 k) := by
  refine Eq.trans ?_ (V_v1 m c k)
  blk_ext [iblk, index_2 t]

theorem iblk_3 (c : Dev nD) (t : Fin cfg0.N) (k : Fin 64) (q : Fin 512) :
    iblk m c 3 t (ix2 k q) = m ((c : Thread nD τ).loc main_arg3) (ix2 k q) := by
  blk_ext [iblk, V, index_3 t]

end Cert.KernelIdeal.Hand
-- ==== Proof.Value.lean ====
/- What the kernel leaves in the output block of an image, as a function of the arguments. -/
module

public import proofs.«01_k».proof.Proof.Blocks

@[expose] public section

set_option maxRecDepth 16384

noncomputable section

namespace Cert.KernelIdeal.Hand

open Idealize.ShloMosaic Idealize.ShloMosaic.TcCoe Cert.KernelIdeal.Gen Cert.Netvlad

variable (m : (ℓ : Loc nD τ sig) → Buf (Elt Ideal) ℓ)

/-- Channel `ch` of image `b` at the flat pixel `p`. -/
def img (c : Dev nD) (b : Fin 64) (ch : Fin 512) (p : Fin 4096) : EReal :=
  m ((c : Thread nD τ).loc main_arg0) (ix4 b ch ⟨p.val / 64, by omega⟩ ⟨p.val % 64, Nat.mod_lt _ (by decide)⟩)

/-- The centre weights, the biases and the centres. -/
def wgt (c : Dev nD) (k : Fin 64) (ch : Fin 512) : EReal := m ((c : Thread nD τ).loc main_arg1) (ix2 k ch)
def bias (c : Dev nD) (k : Fin 64) : EReal := m ((c : Thread nD τ).loc main_arg2) (ix1 k)
def cent (c : Dev nD) (k : Fin 64) (q : Fin 512) : EReal := m ((c : Thread nD τ).loc main_arg3) (ix2 k q)

/-- The sum of squares over the channels at a pixel of image `b`. -/
def sq (c : Dev nD) (b : Fin 64) (p : Fin 4096) : EReal := ∑ ch, img m c b ch p * img m c b ch p

/-- The factor the kernel scales a pixel's column by. -/
def fac (c : Dev nD) (b : Fin 64) (p : Fin 4096) : EReal := Ideal.div (Ideal.ofBits FTy.f32 0x3F800000#32) (nrm (sq m c b p))

theorem pt_image (b : Fin 64) (j : ℕ) (hj : j < 4) : (pt (4 * b.val + j)).val = 4 * b.val + j :=
  Nat.mod_eq_of_lt (by omega)

/-- A chunk's block is 128 channels of its image. -/
theorem chunk_apply (c : Dev nD) (b : Fin 64) (j : ℕ) (hj : j < 4) (r : Fin 128) (p : Fin 4096) :
    k0_pay9 (chunk m c (4 * b.val + j)) (ix2 r p) = img m c b ⟨j * 128 + r.val, by omega⟩ p := by
  rw [pay9_apply]
  refine (iblk_0 m c _ _ _).trans ((V_v0 m c _ _).trans ?_)
  have e := pt_image b j hj
  refine congrArg (m _) (congr (congr (congr (congrArg ix4 (Fin.ext ?_)) (Fin.ext ?_)) (Fin.ext ?_)) (Fin.ext ?_))
  all_goals simp only [e]
  all_goals omega

/-- A sum of 512 terms taken in four stretches of 128. -/
theorem four (g : ℕ → EReal) (f : Fin 512 → EReal) (h0 : g 0 = 0)
    (h : ∀ j (hj : j < 4), g (j + 1) = g j + ∑ c : Fin 128, f ⟨j * 128 + c.val, by omega⟩) : g 4 = ∑ c, f c := by
  rw [← Fin.sum_mul_add_fin (S := 4) (n := 128), Fin.sum_univ_four, h 3 (by decide), h 2 (by decide), h 1 (by decide), h 0 (by decide), h0, zero_add]
  rfl

/-- After the four chunks the first accumulator holds the sum of squares over all channels. -/
theorem ssq_apply (c : Dev nD) (b : Fin 64) (r : Fin 8) (q : Fin 512) :
    ssq m c b.val 4 (ix2 r q) = sq m c b ⟨r.val * 512 + q.val, by omega⟩ := by
  refine four (fun j => ssq m c b.val j (ix2 r q)) _ (pay8_apply r q) fun j hj => ?_
  refine (pay10_apply _ _ r q).trans ?_
  simp only [chunk_apply m c b j hj]

theorem weights_apply (b : Fin 64) (j : ℕ) (hj : j < 4) (w : Vec Ideal S64x512 .f32) (k : Fin 64) (r : Fin 128) :
    VecWindow.window w (k0_off1 (grid0.coords (pt (4 * b.val + j)))) S64x128.size (k0_off1_inb _) (ix2 k r) = w (ix2 k ⟨j * 128 + r.val, by omega⟩) := by
  have e := (point_facts (pt (4 * b.val + j))).2.2.1
  rw [pt_image b j hj] at e
  refine congrArg w (funext fun a => Fin.ext ?_)
  match a with
  | ⟨0, _⟩ =>
    have e0 : k0_off1 (grid0.coords (pt (4 * b.val + j))) 0 = 0 := congrFun e 0
    show k0_off1 (grid0.coords (pt (4 * b.val + j))) 0 + 1 * k.val = k.val
    omega
  | ⟨1, _⟩ =>
    have e1 : k0_off1 (grid0.coords (pt (4 * b.val + j))) 1 = 128 * ((4 * b.val + j) % 4) := congrFun e 1
    show k0_off1 (grid0.coords (pt (4 * b.val + j))) 1 + 1 * r.val = j * 128 + r.val
    omega

/-- After the four chunks the second accumulator holds the centre weights times the image. -/
theorem acc_apply (c : Dev nD) (b : Fin 64) (k : Fin 64) (p : Fin 4096) :
    acc m c b.val 4 (ix2 k p) = ∑ ch, wgt m c k ch * img m c b ch p := by
  refine four (fun j => acc m c b.val j (ix2 k p)) (fun ch => wgt m c k ch * img m c b ch p) (pay7_apply k p) fun j hj => ?_
  refine (pay11_apply _ _ _ k p).trans ?_
  refine congrArg (_ + ·) (Finset.sum_congr rfl fun r _ => ?_)
  rw [chunk_apply m c b j hj, weights_apply b j hj, iblk_1]
  rfl

/-- The kept rows: eight rows of 512 pixels for every channel. -/
theorem rows_apply (c : Dev nD) (b : Fin 64) (i : Fin 4096) (q : Fin 512) :
    rows m c b.val (ix2 i q) = img m c b (chan i) (pix i q) := by
  have hj : i.val / 1024 < 4 := by omega
  have e : rows m c b.val (ix2 i q) = rowsOf (chunk m c (4 * b.val + i.val / 1024)) (ix2 ⟨i.val % 1024, Nat.mod_lt _ (by decide)⟩ q) := by
    rw [ix2_eq_valueIdx (n0 := 1024)]; rfl
  refine e.trans ((pay12_apply _ _ _).trans ((chunk_apply m c b _ hj _ _).trans ?_))
  exact congrArg₂ (img m c b) (Fin.ext (by simp [chan]; omega)) (Fin.ext (by simp [pix]))

/-- The factor of a pixel, read from the first accumulator. -/
theorem fac_apply (c : Dev nD) (b : Fin 64) (r : Fin 8) (q : Fin 512) :
    k0_pay3 (ssq m c b.val 4) (ix2 r q) = fac m c b ⟨r.val * 512 + q.val, by omega⟩ := by
  rw [pay3_apply, ssq_apply]; rfl

/-- The weight of a pixel at a centre. -/
theorem weight_apply (c : Dev nD) (b : Fin 64) (t : Fin cfg0.N) (k : Fin 64) (p : Fin 4096) :
    k0_pay4 (ssq m c b.val 4) (acc m c b.val 4) (iblk m c 2 t) (ix2 k p)
      = soft (fun k' => (∑ ch, wgt m c k' ch * img m c b ch p) * fac m c b p + bias m c k') k := by
  have e : (⟨p.val / 512 * 512 + p.val % 512, by omega⟩ : Fin 4096) = p := Fin.ext (Nat.div_add_mod' _ _)
  rw [pay4_apply]
  simp only [fac_apply, acc_apply, iblk_2, e]
  rfl

/-- The output block of image `b`. -/
theorem block_apply (c : Dev nD) (b : Fin 64) (k : Fin 64) (q : Fin 512) :
    block m c b.val (ix3 0 k q)
      = vlad (fun k p => (∑ ch, wgt m c k ch * img m c b ch p) * fac m c b p + bias m c k)
          (fun i q => img m c b (chan i) (pix i q) * fac m c b (pix i q)) (cent m c) k q := by
  refine (pay2_apply _ _ _ k q).trans ?_
  unfold vlad
  congr 2
  funext k q
  rw [pay5_apply, pay6_apply, iblk_3]
  simp only [weight_apply, rows_apply, fac_apply]
  rfl

end Cert.KernelIdeal.Hand
-- ==== Proof.Algebra.lean ====
/- Scaling after the sum over the channels or before it: the two programs' logits and rows agree over the extended reals. -/
module

public import proofs.«01_k».proof.Proof.Spec
public import Idealize.ShloMosaic.Lib.IdealHost

@[expose] public section

noncomputable section

namespace Cert.Netvlad

open Idealize.ShloMosaic

/-- The smallest length is positive. -/
theorem eps_pos : 0 < eps := by
  have e : eps = ((9223372 * (2 : ℝ) ^ (-63 : ℤ) : ℝ) : EReal) := by
    simp [eps, Ideal.ofBits, Ideal.ieee, -EReal.coe_mul]
    try norm_num
  rw [e]
  exact EReal.coe_pos.mpr (by positivity)

/-- A length to divide by is positive. -/
theorem nrm_pos (s : EReal) : 0 < nrm s := lt_max_of_lt_right eps_pos

/-- One over a length is neither negative nor infinite. -/
theorem inv_nrm (s : EReal) : 0 ≤ Ideal.div 1 (nrm s) ∧ Ideal.div 1 (nrm s) ≠ ⊤ := by
  unfold Ideal.div
  rw [if_neg (nrm_pos s).ne', one_mul]
  exact ⟨EReal.inv_nonneg_of_nonneg (nrm_pos s).le, (EReal.inv_lt_top _).ne⟩

/-- A factor that is neither negative nor infinite goes inside a sum. -/
theorem sum_mul_of {n : ℕ} (f : Fin n → EReal) {r : EReal} (h0 : 0 ≤ r) (ht : r ≠ ⊤) : (∑ i, f i) * r = ∑ i, f i * r :=
  map_sum (⟨⟨fun a => a * r, zero_mul r⟩, EReal.right_distrib_of_nonneg_of_ne_top h0 ht⟩ : EReal →+ EReal) f Finset.univ

/-- The product of weights and channels, scaled by one over the column's length, is the product with the divided channels. -/
theorem scaled (w x : Fin 512 → EReal) (s : EReal) :
    (∑ c, w c * x c) * Ideal.div 1 (nrm s) = ∑ c, w c * Ideal.div (x c) (nrm s) := by
  rw [sum_mul_of _ (inv_nrm s).1 (inv_nrm s).2]
  exact Finset.sum_congr rfl fun c _ => by rw [mul_assoc, Ideal.mul_one_div (nrm_pos s).ne']

end Cert.Netvlad
-- ==== Proof.Result.lean ====
/- The kernel's result array after the run, as a function of the arguments. -/
module

public import proofs.«01_k».proof.Proof.Frame
public import proofs.«01_k».proof.Proof.Value
public import proofs.«01_k».proof.Proof.Algebra

@[expose] public section

set_option maxRecDepth 16384

noncomputable section

namespace Cert.KernelIdeal.Hand

open Idealize.ShloMosaic Idealize.ShloMosaic.TcCoe Idealize.SL.Sem Cert.KernelIdeal.Gen Cert.Netvlad
open Idealize.ShloMosaic.Pipeline (Dat)

variable (m : (ℓ : Loc nD τ sig) → Buf (Elt Ideal) ℓ) (ρ : Dev nD → PrngReg)

/-- The launch's result array: the blocks of the 64 images. -/
def table (c : Dev nD) : Vec Ideal S64x64x512 .f32 := fun y => block m c (y 0).val (ix3 0 (y 1) (y 2))

theorem array_v2 (c : Dev nD) : (dats m 0 c).arrAt 4 cfg0.N = table m c := by
  refine (dats m 0 c).arrAt_eq_of_covers 4 _ (by decide +kernel) fun t hf y => ?_
  blk_simp
  rw [after_4]
  have e : t.val / 4 = ((win0_4.blk t).view.emb y 0).val := by
    blk_simp [index_4 t]
  unfold table
  rw [← e]
  refine congrArg (block m c (t.val / 4)) (funext fun a => Fin.ext ?_)
  match a with
  | ⟨0, _⟩ => exact Nat.lt_one_iff.mp (y 0).isLt
  | ⟨1, _⟩ =>
    show (y 1).val = ((win0_4.blk t).view.emb y 1).val
    blk_simp [index_4 t]
  | ⟨2, _⟩ =>
    show (y 2).val = ((win0_4.blk t).view.emb y 2).val
    blk_simp [index_4 t]

/-- The program's result: the launch's array with each image's table laid flat. -/
theorem tail_v3 (c : Dev nD) (b : Fin 64) (n : Fin 32768) :
    Pipeline.afterTail₀ cfgs (dats m) 0 (V0 m) [hostOps1] c main_v3 (ix2 b n)
      = table m c (ix3 b ⟨n.val / 512, by omega⟩ ⟨n.val % 512, by omega⟩) := by
  have e : Pipeline.withArrays (cfgs 0).spec c (V0 m c) (fun w => (dats m 0 c).arrAt w (cfgs 0).N) (Proc.devRef .tc main_v2) = table m c :=
    (Pipeline.withArrays_arr spec0 (by decide) c (V0 m c) _ 4).trans (array_v2 m c)
  rw [← e]
  unfold Pipeline.afterTail₀
  after_reads_at

/-- The kernel's result at an image and a flat position. -/
def out (c : Dev nD) : Vec Ideal S64x32768 .f32 := Pipeline.afterTail₀ cfgs (dats m) 0 (V0 m) [hostOps1] c main_v3

/-- A pixel's column of an image divided by its length. -/
def scaledImg (c : Dev nD) (b : Fin 64) (ch : Fin 512) (p : Fin 4096) : EReal := Ideal.div (img m c b ch p) (nrm (sq m c b p))

theorem out_apply (c : Dev nD) (b : Fin 64) (n : Fin 32768) :
    out m c (ix2 b n)
      = vlad (fun k p => ∑ ch, wgt m c k ch * scaledImg m c b ch p + bias m c k) (fun i q => scaledImg m c b (chan i) (pix i q)) (cent m c)
          ⟨n.val / 512, by omega⟩ ⟨n.val % 512, by omega⟩ := by
  refine (tail_v3 m c b n).trans ((block_apply m c b _ _).trans ?_)
  have e (b : Fin 64) (p : Fin 4096) : fac m c b p = Ideal.div 1 (nrm (sq m c b p)) := by rw [fac, Ideal.ofBits_one_f32]
  have h1 : (fun (k : Fin 64) p => (∑ ch, wgt m c k ch * img m c b ch p) * fac m c b p + bias m c k)
      = fun k p => ∑ ch, wgt m c k ch * scaledImg m c b ch p + bias m c k := by
    funext k p
    rw [e, scaled]
    rfl
  have h2 : (fun i q => img m c b (chan i) (pix i q) * fac m c b (pix i q)) = fun i q => scaledImg m c b (chan i) (pix i q) := by
    funext i q
    rw [e, Ideal.mul_one_div (nrm_pos _).ne']
    rfl
  rw [h1, h2]
  rfl

/-- The run ends with that result, the arguments as they were and every counter at zero. -/
theorem run_out : θ_run defs (onTc (τ := τ) (main (F := Ideal))) ⟨m, fun _ => 0, ρ⟩ (fun r => ∀ c : Dev nD,
    r.2.mem ((c.tc : Thread nD τ).loc main_v3) = out m c) :=
  (θ_run defs _ _).mono (fun _ h c => (h.1 c).2 main_v3 (Pipeline.mem_restRefs_of main_v3 (by decide) (by decide))) (run m ρ)

end Cert.KernelIdeal.Hand

end
-- ==== Proof.Bits.lean ====
/- The kernel and its idealization are one program at the machine's floats, since the idealization rewrote no operation: the
kernel's run is the idealization's. -/
module

public import proofs.«01_k».proof.Defs
public import proofs.«01_k».proof.Proof.Frame
public import proofs.«01_k».proof.Proof.Gen.Kernel
public import proofs.«01_k».proof.Proof.Gen.KernelIdeal
public import Idealize.ShloMosaic.Lib.Claim

@[expose] public section

set_option maxRecDepth 16384

noncomputable section

namespace Cert.Proof

open Idealize.ShloMosaic Idealize.SL.Sem

/-- The two programs' body tables agree at every label. -/
theorem body_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- So do the tables with the launches' pipelines added. -/
theorem defs_same : Cert.Kernel.defs (F := Bits) = Cert.KernelIdeal.defs (F := Bits) :=
  congrArg (Pipeline.defs (Cert.KernelIdeal.pcfgs (F := Bits))) body_same

/-- The kernel at the machine's floats runs, leaves its arguments as they were and ends with every counter at zero. -/
theorem kernel_frame : Cert.quiescent_Kernel := fun m ρ _ =>
  Eq.subst (motive := fun d => θ_run d (onTc (τ := Cert.KernelIdeal.τ) (Cert.KernelIdeal.main (F := Bits))) ⟨m, fun _ => 0, ρ⟩ _)
    defs_same.symm
    (θ_run_and (Cert.KernelIdeal.Hand.unchanged (F := Bits) m ρ)
      ((θ_run _ _ _).mono (fun _ h => h.2) (Cert.KernelIdeal.Hand.run (F := Bits) m ρ)))

end Cert.Proof

end
-- ==== Proof.RefValue.lean ====
/- What the reference computes, read at an index over the extended reals. -/
module

public import proofs.«01_k».proof.Proof.Ref
public import proofs.«01_k».proof.Proof.Spec
public import Idealize.ShloMosaic.Lib.Pipeline.ValueKit.Acc

@[expose] public section

set_option maxRecDepth 16384

noncomputable section

namespace Cert.ReferenceIdeal.Hand

open Idealize.ShloMosaic Cert.ReferenceIdeal Cert.ReferenceIdeal.Read Cert.Netvlad

variable (x : (⟨S64x512x64x64, .f32⟩ : BufTy).Contents (Elt Ideal)) (w : (⟨S64x512, .f32⟩ : BufTy).Contents (Elt Ideal))
variable (bi : (⟨S64, .f32⟩ : BufTy).Contents (Elt Ideal)) (ce : (⟨S64x512, .f32⟩ : BufTy).Contents (Elt Ideal))

/-- The image's channels, each pixel's column divided by its length. -/
theorem v7_apply (b : Fin 64) (ch : Fin 512) (h v : Fin 64) :
    val_main_v7 x (ix4 b ch h v) = Ideal.div (x (ix4 b ch h v)) (nrm (∑ c, x (ix4 b c h v) * x (ix4 b c h v))) := by
  pointwise [val_main_v7, val_main_v6, val_main_v5, val_main_v4, val_main_v3, val_main_v2, val_main_v1, val_main_v0, val_main_cst, val_main_cst_0]
  rfl

/-- The logits. -/
theorem v13_apply (b : Fin 64) (k : Fin 64) (p : Fin 4096) :
    val_main_v13 x w bi (ix3 b k p) = ∑ c, w (ix2 k c) * val_main_v7 x (ix4 b c ⟨p.val / 64, by omega⟩ ⟨p.val % 64, by omega⟩) + bi (ix1 k) := by
  pointwise [val_main_v13, val_main_v12, val_main_v11, val_main_v10, val_main_v9, val_main_v8]

/-- A maximum over the middle axis, from any start. -/
theorem maximum_apply (y : FVec Ideal S64x64x4096 .f32) (i : FVec Ideal S_ .f32) (h : S64x64x4096.ReducesTo [1] S64x4096) (hu : 0 < S_.numel)
    (b : Fin 64) (p : Fin 4096) :
    Host.reduce FloatOps.maximumf y i h hu (ix2 b p)
      = Finset.univ.fold max (i (Shape.Idx.first hu)) fun k => y (ix3 b k p) := by
  rw [Host.reduce_eq_fold, Shape.ReducesTo.fold_fiber_r3_a1]
  rfl

/-- The greatest logit of a pixel. -/
theorem v16_apply (b : Fin 64) (p : Fin 4096) :
    val_main_v16 x w bi (ix2 b p) = top fun k => val_main_v13 x w bi (ix3 b k p) := by
  have e : val_main_v14 x w bi (ix2 b p) = top fun k => val_main_v13 x w bi (ix3 b k p) := maximum_apply _ _ _ _ b p
  rw [val_main_v16_apply, val_main_v15_apply, val_main_cst_2_apply, e, Ideal.maximumf_def]
  exact max_eq_right (Finset.le_fold_max _ |>.mpr (.inl le_rfl))

/-- The weights. -/
theorem v24_apply (b : Fin 64) (k : Fin 64) (p : Fin 4096) :
    val_main_v24 x w bi (ix3 b k p) = soft (fun k' => val_main_v13 x w bi (ix3 b k' p)) k := by
  pointwise [val_main_v24, val_main_v23, val_main_v22, val_main_v21, val_main_v20, val_main_v19, val_main_v18, val_main_v17, val_main_cst_3]
  simp only [v16_apply]
  rfl

/-- The rows of the normalised image. -/
theorem v25_apply (b : Fin 64) (i : Fin 4096) (q : Fin 512) :
    val_main_v25 x (ix3 b i q) = val_main_v7 x (ix4 b (chan i) ⟨(pix i q).val / 64, by omega⟩ ⟨(pix i q).val % 64, by omega⟩) := by
  pointwise [val_main_v25]
  refine congrArg (val_main_v7 x) (congrArg₂ (ix4 b (chan i)) (Fin.ext ?_) (Fin.ext ?_))
  · simp only [pix]; omega
  · simp only [pix]; omega

/-- The residuals. -/
theorem v33_apply (b : Fin 64) (k : Fin 64) (q : Fin 512) :
    val_main_v33 x w bi ce (ix3 b k q)
      = resid (fun k p => val_main_v24 x w bi (ix3 b k p)) (fun i q => val_main_v25 x (ix3 b i q)) (fun k q => ce (ix2 k q)) k q := by
  pointwise [val_main_v33, val_main_v32, val_main_v31, val_main_v30, val_main_v29, val_main_v28, val_main_v27, val_main_v26, val_main_cst_4]
  rfl

/-- The residuals, every row divided by its length. -/
theorem v41_apply (b : Fin 64) (k : Fin 64) (q : Fin 512) :
    val_main_v41 x w bi ce (ix3 b k q) = intra (fun k q => val_main_v33 x w bi ce (ix3 b k q)) k q := by
  pointwise [val_main_v41, val_main_v40, val_main_v39, val_main_v38, val_main_v37, val_main_v36, val_main_v35, val_main_v34, val_main_cst_5, val_main_cst_6]
  rfl

/-- The descriptor: the whole table divided by its length. -/
theorem v50_apply (b : Fin 64) (n : Fin 32768) :
    val_main_v50 x w bi ce (ix2 b n) = whole (fun k q => val_main_v41 x w bi ce (ix3 b k q)) ⟨n.val / 512, by omega⟩ ⟨n.val % 512, by omega⟩ := by
  pointwise [val_main_v50, val_main_v49, val_main_v48, val_main_v47, val_main_v46, val_main_v45, val_main_v44, val_main_v43, val_main_v42, val_main_cst_7, val_main_cst_8]
  have e := Fin.sum_divmod_fin 512 (fun (k : Fin 64) (q : Fin 512) => val_main_v41 x w bi ce (ix3 b k q) * val_main_v41 x w bi ce (ix3 b k q)) (hN := (by norm_num : 32768 = 64 * 512))
  rw [e]
  rfl

/-- A pixel's column of the image divided by its length. -/
def unit (b : Fin 64) (ch : Fin 512) (p : Fin 4096) : EReal :=
  val_main_v7 x (ix4 b ch ⟨p.val / 64, by omega⟩ ⟨p.val % 64, by omega⟩)

/-- The result of the reference. -/
theorem result_apply (b : Fin 64) (n : Fin 32768) :
    val_main_v50 x w bi ce (ix2 b n)
      = vlad (fun k p => ∑ c, w (ix2 k c) * unit x b c p + bi (ix1 k)) (fun i q => unit x b (chan i) (pix i q)) (fun k q => ce (ix2 k q))
          ⟨n.val / 512, by omega⟩ ⟨n.val % 512, by omega⟩ := by
  rw [v50_apply]
  simp only [v41_apply, v33_apply, v24_apply, v25_apply, v13_apply]
  rfl

end Cert.ReferenceIdeal.Hand
-- ==== Proof.lean ====
/- The five claims, assembled from the runs, the result of the kernel and the result of the reference. -/
module

public import proofs.«01_k».proof.Defs
public import proofs.«01_k».proof.Proof.Ref
public import proofs.«01_k».proof.Proof.Result
public import proofs.«01_k».proof.Proof.Bits
public import proofs.«01_k».proof.Proof.RefValue
public import Idealize.ShloMosaic.Lib.Quiescent
public import Idealize.ShloMosaic.Lib.Claim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- From equal arguments the reference's result is the kernel's, over the extended reals. -/
theorem same (m : (ℓ : Loc Cert.KernelIdeal.nD Cert.KernelIdeal.τ Cert.KernelIdeal.sig) → Buf (Elt Ideal) ℓ) (c : Dev Cert.KernelIdeal.nD) :
    Cert.ReferenceIdeal.Read.val_main_v50 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = Cert.KernelIdeal.Hand.out m c := by
  funext y
  obtain ⟨b, n, rfl⟩ : ∃ b n, y = ix2 b n := ⟨y 0, y 1, eq_ix2 y⟩
  refine (Cert.ReferenceIdeal.Hand.result_apply _ _ _ _ b n).trans (Eq.trans ?_ (Cert.KernelIdeal.Hand.out_apply m c b n).symm)
  have e (ch : Fin 512) (p : Fin 4096) : Cert.ReferenceIdeal.Hand.unit
      (m ((c.tc : Thread Cert.KernelIdeal.nD Cert.KernelIdeal.τ).loc Cert.KernelIdeal.main_arg0)) b ch p
        = Cert.KernelIdeal.Hand.scaledImg m c b ch p := by
    unfold Cert.ReferenceIdeal.Hand.unit
    rw [Cert.ReferenceIdeal.Hand.v7_apply]
    rfl
  simp only [e]
  rfl

/-- All five claims: both kernels and the reference run and leave the arguments and the counters as they were, the kernel is
its own idealization, and over the extended reals its result is the reference's. -/
theorem claim : Cert.Claim := ⟨Cert.Kernel.Gen.facts, Cert.KernelIdeal.Gen.facts, Cert.ReferenceIdeal.Gen.facts,
  kernel_frame,
  fun m ρ _ => θ_run_and (Cert.KernelIdeal.Hand.unchanged m ρ) ((θ_run _ _ _).mono (fun _ h => h.2) (Cert.KernelIdeal.Hand.run m ρ)),
  fun m ρ _ => (θ_run _ _ _).mono (fun r h => ⟨fun c => (h c).2, sem_eq_zero_of_no_sems rfl r.2⟩) (Cert.ReferenceIdeal.Value.run m ρ),
  trivial,
  fun m g m' g' _ hm => ⟨fun c => Cert.KernelIdeal.Hand.out m c,
    (θ_run _ _ _).mono (fun _ h c => ⟨h.1 c, h.2 c⟩) (θ_run_and (Cert.KernelIdeal.Hand.run_out m g) (Cert.KernelIdeal.Hand.unchanged m g)),
    (θ_run _ _ _).mono (fun _ h c => ⟨(h c).1.trans (by
      rw [Cert.ReferenceIdeal.Read.val_main_v50_eq, (hm c).1, (hm c).2.1, (hm c).2.2.1, (hm c).2.2.2]
      exact same m c), (h c).2⟩) (Cert.ReferenceIdeal.Value.run m' g')⟩⟩

end Cert.Proof

end
